-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x32 : Shape := ⟨2, ![8192, 32]⟩
abbrev S64x128x32 : Shape := ⟨3, ![64, 128, 32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S64x128x32 : S_.BroadcastsInDim S64x128x32 (![] : Fin 0 → Fin S64x128x32.rank)
  reducesTo_S64x128x32_S_d0_1_2 : S64x128x32.ReducesTo [0, 1, 2] S_

variable [Facts]

def fn {F : FTy → Type} [FloatOps F] (main_arg0 : FVec F S8192x32 .f32) (main_arg1 : FVec F S64x128x32 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S64x128x32 .f32 := Host.absf main_arg1
  let main_cst_0 : FVec F S_ .f32 := constant S_ .f32 0x7F800000#32
  let main_v5 : FVec F S64x128x32 .f32 := broadcastInDim S64x128x32 ![] bcast_S_S64x128x32 main_cst_0
  let main_v6 : IVec S64x128x32 1 := cmpf .olt main_v4 main_v5
  let main_c_1 : IVec S_ 1 := constantI S_ 1 1#1
  let main_v7 : IVec S_ 1 := (fun x v => Host.reduce IntOp.andi x v reducesTo_S64x128x32_S_d0_1_2 h_S_) main_v6 main_c_1
  let main_v8 : IVec S_ 1 := andi main_v3 main_v7
  main_v8
-- ==== Kernel.lean ====
abbrev S8192x32 : Shape := ⟨2, ![8192, 32]⟩
abbrev S64x128x32 : Shape := ⟨3, ![64, 128, 32]⟩
abbrev S8192x2 : Shape := ⟨2, ![8192, 2]⟩
abbrev S8192x1 : Shape := ⟨2, ![8192, 1]⟩
abbrev S8192 : Shape := ⟨1, ![8192]⟩
abbrev S1x8192 : Shape := ⟨2, ![1, 8192]⟩
abbrev S8192x128 : Shape := ⟨2, ![8192, 128]⟩
abbrev S8x8192 : Shape := ⟨2, ![8, 8192]⟩
abbrev S1024x32 : Shape := ⟨2, ![1024, 32]⟩
abbrev S8192x1024 : Shape := ⟨2, ![8192, 1024]⟩
abbrev S1024x8x128 : Shape := ⟨3, ![1024, 8, 128]⟩
abbrev S8x128 : Shape := ⟨2, ![8, 128]⟩
abbrev S1x8x128 : Shape := ⟨3, ![1, 8, 128]⟩

abbrev nBuf : Space → Nat
  | .hbm => 6
  | .vmem => 4
  | .smem => 0
  | _ => 0

abbrev bufTy : (tb : Table) → Fin (tcTables nBuf tb) → BufTy
  | .hbm, ⟨0, _⟩ => ⟨S8192x32, .f32⟩
  | .hbm, ⟨1, _⟩ => ⟨S64x128x32, .f32⟩
  | .hbm, ⟨2, _⟩ => ⟨S8192x32, .f32⟩
  | .hbm, ⟨3, _⟩ => ⟨S8192x2, .i32⟩
  | .hbm, ⟨4, _⟩ => ⟨S8192x1, .f32⟩
  | .hbm, ⟨5, _⟩ => ⟨S8192, .f32⟩
  | .local _ .vmem, ⟨0, _⟩ => ⟨S8192x32, .f32⟩
  | .local _ .vmem, ⟨1, _⟩ => ⟨S8192x32, .f32⟩
  | .local _ .vmem, ⟨2, _⟩ => ⟨S8192x2, .i32⟩
  | .local _ .vmem, ⟨3, _⟩ => ⟨S8192x1, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8192x32 : Shape := ⟨2, ![8192, 32]⟩
abbrev S64x128x32 : Shape := ⟨3, ![64, 128, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S32x8192 : Shape := ⟨2, ![32, 8192]⟩
abbrev S8192x8192 : Shape := ⟨2, ![8192, 8192]⟩
abbrev S8192x2 : Shape := ⟨2, ![8192, 2]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S64x128x32, .f32⟩
  | .hbm, ⟨2, _⟩ => ⟨S8192x32, .f32⟩
  | .hbm, ⟨3, _⟩ => ⟨S8192x32, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S32x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .i32⟩
  | .hbm, ⟨24, _⟩ => ⟨S_, .f32⟩
  | .hbm, ⟨25, _⟩ => ⟨S_, .i32⟩
  | .hbm, ⟨26, _⟩ => ⟨S8192, .f32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S_, .i32⟩
  | .hbm, ⟨61, _⟩ => ⟨S_, .i1⟩
  | .hbm, ⟨62, _⟩ => ⟨S8192, .i1⟩
  | .hbm, ⟨63, _⟩ => ⟨S8192, .i1⟩
  | .hbm, ⟨64, _⟩ => ⟨S8192, .i1⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x1, .i32⟩
  | .hbm, ⟨70, _⟩ => ⟨S8192x2, .i32⟩
  | .hbm, ⟨71, _⟩ => ⟨S8192x1, .i32⟩
  | .hbm, ⟨72, _⟩ => ⟨S_, .i32⟩
  | .hbm, ⟨73, _⟩ => ⟨S8192x1, .i32⟩
  | .hbm, ⟨74, _⟩ => ⟨S8192x1, .i1⟩
  | .hbm, ⟨75, _⟩ => ⟨S_, .i32⟩
  | .hbm, ⟨76, _⟩ => ⟨S8192x1, .i32⟩
  | .hbm, ⟨77, _⟩ => ⟨S8192x1, .i32⟩
  | .hbm, ⟨78, _⟩ => ⟨S8192x1, .i32⟩
  | .hbm, ⟨79, _⟩ => ⟨S8192x1x1, .i32⟩
  | .hbm, ⟨80, _⟩ => ⟨S1, .i32⟩
  | .hbm, ⟨81, _⟩ => ⟨S_, .i32⟩
  | .hbm, ⟨82, _⟩ => ⟨S8192x1x1, .i32⟩
  | .hbm, ⟨83, _⟩ => ⟨S8192x1x1, .i1⟩
  | .hbm, ⟨84, _⟩ => ⟨S1x1x1, .i32⟩
  | .hbm, ⟨85, _⟩ => ⟨S8192x1x1, .i32⟩
  | .hbm, ⟨86, _⟩ => ⟨S8192x1x1, .i1⟩
  | .hbm, ⟨87, _⟩ => ⟨S8192x1x1, .i1⟩
  | .hbm, ⟨88, _⟩ => ⟨S_, .i1⟩
  | .hbm, ⟨89, _⟩ => ⟨S8192x1, .i1⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S8192x1, .f32⟩
  | .hbm, ⟨95, _⟩ => ⟨S8192, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_c : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v18 : Ref sig .tc := ⟨.hbm, 45, rfl⟩
abbrev main_c_3 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩

abbrev nD : Nat := 1
abbrev τ : Topo := Topo.v7x

variable {F : FTy → Type} [FloatOps F]
-- ==== Proof.Finite.lean ====
/-
The precondition `finite`: its stated shape facts hold, and where it holds no entry of either argument is an infinity.
-/
module

public import proofs.«01_k».proof.Defs
public import Idealize.ShloMosaic.PureOps.Ideal.Laws
public import Idealize.ShloMosaic.Lib.ReduceAll
public import Idealize.ShloMosaic.Lib.Decide

@[expose] public section
set_option maxRecDepth 16384
noncomputable section
namespace Cert.Proof.Finite
open Idealize.ShloMosaic Cert.Pre_finite

/-- The shape facts the precondition's operations take. -/
theorem facts : Cert.Pre_finite.Facts where
  bcast_S_S8192x32 := by decide
  reducesTo_S8192x32_S_d0_1 := by decide
  h_S_ := by decide
  bcast_S_S64x128x32 := by decide
  reducesTo_S64x128x32_S_d0_1_2 := by decide

/-- A value whose absolute value compares below infinity is not an infinity. -/
theorem ne_of_lt (v : EReal)
    (h : FloatOps.cmpf (F := Ideal) (φ := .f32) .olt (FloatOps.hostAbsf v) (FloatOps.ofBits (F := Ideal) .f32 0x7F800000#32) = 1#1) :
    v ≠ ⊤ ∧ v ≠ ⊥ := by
  have htop : Ideal.ofBits .f32 0x7F800000#32 = ⊤ := by simp [Ideal.ofBits, Ideal.ieee]
  have h' : Ideal.cmp .olt (max v (-v)) (Ideal.ofBits .f32 0x7F800000#32) = 1#1 := h
  rw [htop] at h'
  constructor <;> rintro rfl <;> simp [Ideal.cmp] at h'

/-- Where the precondition holds every entry of both arguments is a real number. -/
theorem entries [Cert.Pre_finite.Facts] (x : FVec Ideal S8192x32 .f32) (w : FVec Ideal S64x128x32 .f32)
    (h : fn x w = fun _ => 1#1) : (∀ i, x i ≠ ⊤ ∧ x i ≠ ⊥) ∧ ∀ i, w i ≠ ⊤ ∧ w i ≠ ⊥ := by
  have : Subsingleton S_.Idx := ⟨fun a b => funext fun i => i.elim0⟩
  have hbit : ∀ a b : BitVec 1, IntOp.andi a b = 1#1 → a = 1#1 ∧ b = 1#1 := by decide
  obtain ⟨hx, hw⟩ := hbit _ _ (congrFun h fun a => a.elim0)
  exact ⟨fun i => ne_of_lt _ (Host.reduce_andi_all _ _ _ _ _ hx i), fun i => ne_of_lt _ (Host.reduce_andi_all _ _ _ _ _ hw i)⟩

end Cert.Proof.Finite
end
-- ==== Proof.RefRun.lean ====
/-
The reference's run: from any memory its host operations run to the end, leave the arguments alone, and end with the
two result arrays `refCells` and `refError` below — the composed terms of the reference's own operations.
-/
module

public import proofs.«01_k».proof.Defs
public import proofs.«01_k».proof.Proof.Gen.ReferenceIdeal
public import Idealize.ShloMosaic.Lib.Claim
public import Idealize.ShloMosaic.Lib.Quiescent
public import Idealize.ShloMosaic.Lib.Tactic.CleanTypes

@[expose] public section
noncomputable section
namespace Cert.Proof.Ref
open Idealize.ShloMosaic Idealize.ShloMosaic.TcCoe Idealize.SL.Sem
open Cert.ReferenceIdeal Cert.ReferenceIdeal.Gen

/-- The table of clamped squared distances: entry `(b, k)` for input row `b` and unit `k`. -/
def dist (x : FVec Ideal S8192x32 .f32) (w : FVec Ideal S8192x32 .f32) : FVec Ideal S8192x8192 .f32 :=
  maximumf
    (addf
      (subf
        (broadcastInDim S8192x8192 ![0, 1] bcast_S8192x1_S8192x8192_0_1
          (broadcastInDim S8192x1 ![0] bcast_S8192_S8192x1_0
            (Host.reduceAdd (mulf x x) (constant S_ .f32 0x00000000#32) reducesTo_S8192x32_S8192_d1 h_S_)))
        (mulf (broadcastInDim S8192x8192 ![] bcast_S_S8192x8192 (constant S_ .f32 0x40000000#32))
          (Host.dotGeneral dot_S8192x32_S32x8192_S8192x8192_1_0_0_1_n_n none x
            (transpose S32x8192 [1, 0] w transposes_S8192x32_S32x8192_1_0))))
      (broadcastInDim S8192x8192 ![0, 1] bcast_S1x8192_S8192x8192_0_1
        (broadcastInDim S1x8192 ![1] bcast_S8192_S1x8192_1
          (Host.reduceAdd (mulf w w) (constant S_ .f32 0x00000000#32) reducesTo_S8192x32_S8192_d1 h_S_))))
    (broadcastInDim S8192x8192 ![] bcast_S_S8192x8192 (constant S_ .f32 0x00000000#32))

/-- The unit of each row whose distance is least, the first of equals. -/
def argmin (d : FVec Ideal S8192x8192 .f32) : IVec S8192 32 := fun j =>
  (Host.argReduce reducer_argmin_f32_i32 d (iotaInDim S8192x8192 32 1) (constant S_ .f32 0x7F800000#32)
    (constantI S_ 32 0#32) reducesTo_S8192x8192_S8192_d1 h_S_ j).2

/-- One number repeated over the rows. -/
abbrev rows {n : ℕ} (k : IVec S_ n) : IVec S8192 n := broadcastInDim S8192 ![] bcast_S_S8192 k

/-- Division rounded down, as the host computes it. -/
def floorDiv (a : IVec S8192 32) (k : IVec S_ 32) : IVec S8192 32 :=
  select
    (andi (cmpi .ne (signi a) (rows (signi k))) (cmpi .ne (Host.remsi a (rows k)) (rows (constantI S_ 32 0#32))))
    (subi (Host.divsi a (rows k)) (rows (constantI S_ 32 1#32)))
    (Host.divsi a (rows k))

/-- The divisor, one in place of zero. -/
def divisor (k : IVec S_ 32) : IVec S_ 32 :=
  select (cmpi .eq k (constantI S_ 32 0#32)) (constantI S_ 32 1#32) k

/-- The remainder of division rounded down, as the host computes it. -/
def floorMod (a : IVec S8192 32) (k : IVec S_ 32) : IVec S8192 32 :=
  select
    (andi
      (cmpi .ne (cmpi .slt (Host.remsi a (rows (divisor k))) (rows (constantI S_ 32 0#32)))
        (rows (cmpi .slt (divisor k) (constantI S_ 32 0#32))))
      (cmpi .ne (Host.remsi a (rows (divisor k))) (rows (constantI S_ 32 0#32))))
    (addi (Host.remsi a (rows (divisor k))) (rows (divisor k)))
    (Host.remsi a (rows (divisor k)))

/-- A column of positions with the negative ones counted from the end. -/
def wrapped (i : IVec S8192x1 32) : IVec S8192x1x1 32 :=
  shapeCast S8192x1x1
    (select (cmpi .slt i (broadcastInDim S8192x1 ![] bcast_S_S8192x1 (constantI S_ 32 0#32)))
      (addi i (broadcastInDim S8192x1 ![] bcast_S_S8192x1 (constantI S_ 32 8192#32))) i)
    shapeCasts_S8192x1_S8192x1x1

/-- The entry of each row at a column of positions, one position to a row. -/
def takeAlong (d : FVec Ideal S8192x8192 .f32) (i : IVec S8192x1 32) : FVec Ideal S8192x1 .f32 :=
  select
    (Host.reduce IntOp.andi
      (andi
        (cmpi .sge (wrapped i) (broadcastInDim S8192x1x1 ![] bcast_S_S8192x1x1 (constantI S_ 32 0#32)))
        (cmpi .sle (wrapped i)
          (broadcastInDim S8192x1x1 ![0, 1, 2] bcast_S1x1x1_S8192x1x1_0_1_2
            (broadcastInDim S1x1x1 ![2] bcast_S1_S1x1x1_2 (constantI S1 32 8191#32)))))
      (constantI S_ 1 1#1) reducesTo_S8192x1x1_S8192x1_d2 h_S_)
    (Host.gather gather_S8192x8192_S8192x1x1_S8192x1_n_1_0_0_1_2_11 d (wrapped i))
    (broadcastInDim S8192x1 ![] bcast_S_S8192x1 (constant S_ .f32 0x7FC00000#32))

/-- Two columns side by side. -/
def pair (a b : IVec S8192x1 32) : IVec S8192x2 32 :=
  concatenate S8192x2 1 [⟨S8192x1, a⟩, ⟨S8192x1, b⟩] concatenates_S8192x1_S8192x1_S8192x2_d1

/-- The first result: the row and the column of each input's best unit in the map of `64 × 128`. -/
def refCells (x : FVec Ideal S8192x32 .f32) (w : FVec Ideal S64x128x32 .f32) : IVec S8192x2 32 :=
  pair
    (broadcastInDim S8192x1 ![0] bcast_S8192_S8192x1_0
      (floorDiv (argmin (dist x (shapeCast S8192x32 w shapeCasts_S64x128x32_S8192x32))) (constantI S_ 32 128#32)))
    (broadcastInDim S8192x1 ![0] bcast_S8192_S8192x1_0
      (floorMod (argmin (dist x (shapeCast S8192x32 w shapeCasts_S64x128x32_S8192x32))) (constantI S_ 32 128#32)))

/-- The second result: the root of each input's least distance. -/
def refError (x : FVec Ideal S8192x32 .f32) (w : FVec Ideal S64x128x32 .f32) : FVec Ideal S8192 .f32 :=
  shapeCast S8192
    (Host.sqrt
      (takeAlong (dist x (shapeCast S8192x32 w shapeCasts_S64x128x32_S8192x32))
        (broadcastInDim S8192x1 ![0] bcast_S8192_S8192x1_0
          (argmin (dist x (shapeCast S8192x32 w shapeCasts_S64x128x32_S8192x32))))))
    shapeCasts_S8192x1_S8192

set_option maxHeartbeats 4000000 in
set_option maxRecDepth 16384 in
/-- Every run of the reference ends with `refCells` and `refError` of its arguments, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v22)
        = refCells (m ((c.tc : Thread nD τ).loc main_arg0)) (m ((c.tc : Thread nD τ).loc main_arg1))
      ∧ r.2.mem ((c.tc : Thread nD τ).loc main_v26)
        = refError (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  · refine (congrArg₂ pair ?_ ?_ : pair _ _ = pair _ _)
    all_goals
      simp only [StableHlo.TRef.ofBuf_toBuf]
      simp -implicitDefEqProofs only [StableHlo.TRef.toBuf, StableHlo.TRef.ofBuf, cast_cast, cast_eq]
      clean_types
    · unfold floorDiv argmin dist
      rfl
    · unfold floorMod divisor argmin dist
      rfl
  · simp only [StableHlo.TRef.ofBuf_toBuf]
    simp -implicitDefEqProofs only [StableHlo.TRef.toBuf, StableHlo.TRef.ofBuf, cast_cast, cast_eq]
    clean_types
    unfold refError takeAlong wrapped argmin dist
    rfl

end Cert.Proof.Ref
end
-- ==== Proof.Tiles.lean ====
/-
The kernel's running minimum, as a recursion over the 64 tiles of 128 units: the tile of distances, the least distance
so far in each lane, and the tile it was met in. The kernel's stored arrays are read off the last step.
-/
module

public import proofs.«01_k».proof.Proof.Gen.KernelIdeal.Frame

@[expose] public section
noncomputable section
namespace Cert.Proof.Tiles
open Idealize.ShloMosaic Idealize.ShloMosaic.TcCoe Idealize.SL.Sem
open Cert.KernelIdeal Cert.KernelIdeal.Gen

variable {F : FTy → Type} [FloatOps F]

/-- The products of the inputs, times minus two, with the units of chunk `c` of 1024. -/
def chunk (x w : FVec F S8192x32 .f32) (c : ℕ) : FVec F S8192x1024 .f32 :=
  matmul dot_S8192x32_S1024x32_S8192x1024_1_1_0_0_n_n none (k0_pay4 x)
    (extractStridedSlice S1024x32 ![1024 * (c % 8), 0] (k0_pay3 w) (by
      have := Nat.mod_lt c (show 0 < 8 by decide)
      refine ⟨rfl, fun a => ?_⟩
      fin_cases a
      · show 1024 * (c % 8) + 1024 ≤ 8192
        omega
      · show 0 + 32 ≤ 32
        omega))
    (constant S8192x1024 .f32 0x00000000#32)

/-- The distances from every input to the 128 units of tile `t`. -/
def tile (x w : FVec F S8192x32 .f32) (t : ℕ) : FVec F S8192x128 .f32 :=
  shapeCast S8192x128
    (addf
      (shapeCast S1024x8x128
        (addf (k0_pay5 x)
          (extractStridedSlice S8192x128 ![0, 128 * (t % 8)] (chunk x w (t / 8)) (by
            have := Nat.mod_lt t (show 0 < 8 by decide)
            refine ⟨rfl, fun a => ?_⟩
            fin_cases a
            · show 0 + 8192 ≤ 8192
              omega
            · show 128 * (t % 8) + 128 ≤ 1024
              omega)))
        shapeCasts_S8192x128_S1024x8x128)
      (broadcastTo S1024x8x128
        (shapeCast S1x8x128
          (extractStridedSlice S8x128 ![0, 128 * (t % 64)] (k0_pay6 w) (by
            have := Nat.mod_lt t (show 0 < 64 by decide)
            refine ⟨rfl, fun a => ?_⟩
            fin_cases a
            · show 0 + 8 ≤ 8
              omega
            · show 128 * (t % 64) + 128 ≤ 8192
              omega))
          shapeCasts_S8x128_S1x8x128)
        broadcasts_S1x8x128_S1024x8x128))
    shapeCasts_S1024x8x128_S8192x128

/-- The least distance in each lane over the tiles `0, …, n`. -/
def runVal (x w : FVec F S8192x32 .f32) : ℕ → FVec F S8192x128 .f32
  | 0 => tile x w 0
  | n + 1 => minimumf (runVal x w n) (tile x w (n + 1))

/-- The first tile among `0, …, n` in which a lane met its least distance. -/
def runIdx (x w : FVec F S8192x32 .f32) : ℕ → IVec S8192x128 32
  | 0 => broadcast S8192x128 0#32
  | n + 1 => select (cmpf .olt (tile x w (n + 1)) (runVal x w n)) (broadcast S8192x128 (BitVec.ofNat 32 (n + 1))) (runIdx x w n)

/-- The least distance of each input. -/
def best (x w : FVec F S8192x32 .f32) : FVec F S8192x1 .f32 :=
  shapeCast S8192x1
    (multiReduction .minimumf [1] S8192 (runVal x w 63) 0x7F800000#32 reduces_S8192x128_S8192 (.inl rfl) rfl)
    shapeCasts_S8192_S8192x1

/-- The number of the unit at which each input has its least distance, the first of equals. -/
def bestUnit (x w : FVec F S8192x32 .f32) : IVec S8192x1 32 :=
  shapeCast S8192x1
    (multiReductionI .minsi [1] S8192
      (select (cmpf .oeq (runVal x w 63) (broadcastTo S8192x128 (best x w) broadcasts_S8192x1_S8192x128))
        (addi (muli (runIdx x w 63) (broadcast S8192x128 128#32)) (iota .tc S8192x128 32 [1] iota_S8192x128_d1_w32))
        (broadcast S8192x128 8192#32))
      2147483647#32 reduces_S8192x128_S8192 rfl)
    shapeCasts_S8192_S8192x1

/-- The row and the column of each unit of a column of units. -/
def cells (u : IVec S8192x1 32) : IVec S8192x2 32 :=
  k0_pay1
    (k0_pay174 u 128#32 (divsi u (broadcast S8192x1 128#32))
      (extui 32 (cmpi .sgt u (broadcast S8192x1 0#32)) natLt_1_32) 0#32)
    (k0_pay175 u)

/-- The kernel's second stored array is the root of the least distances over all 64 tiles. -/
theorem out3_eq (x0 x1 : Vec F S8192x32 .f32) :
    out0_3 x0 x1 = View.canon [⟨r0_2, k0_pay2 (best (View.ld x0 r0_0) (View.ld x1 r0_0))⟩] := rfl

/-- The kernel's first stored array is the cells of the best units over all 64 tiles. -/
theorem out2_eq (x0 x1 : Vec F S8192x32 .f32) :
    out0_2 x0 x1 = View.canon [⟨r0_1, cells (bestUnit (View.ld x0 r0_0) (View.ld x1 r0_0))⟩] := rfl

end Cert.Proof.Tiles
end
-- ==== Proof.KernelRun.lean ====
/-
The kernel's run: from any memory it ends with the two result arrays `cellsOf` and `errorOf` below, the stored arrays of
its one block, which is the whole array.
-/
module

public import proofs.«01_k».proof.Proof.Tiles
public import Idealize.ShloMosaic.Lib.Pipeline.ValueKit
public import Idealize.ShloMosaic.Lib.Claim

@[expose] public section
set_option maxRecDepth 16384
noncomputable section
namespace Cert.Proof.Tiles
open Idealize.ShloMosaic Idealize.ShloMosaic.TcCoe Idealize.SL.Sem
open Cert.KernelIdeal Cert.KernelIdeal.Gen

variable {F : FTy → Type} [FloatOps F]

/-- The first result: the cell of each input's best unit. -/
def cellsOf (x : FVec F S8192x32 .f32) (w : FVec F S64x128x32 .f32) : IVec S8192x2 32 :=
  cells (bestUnit x (shapeCast S8192x32 w shapeCasts_S64x128x32_S8192x32))

/-- The second result: the root of each input's least distance. -/
def errorOf (x : FVec F S8192x32 .f32) (w : FVec F S64x128x32 .f32) : FVec F S8192 .f32 :=
  shapeCast S8192 (k0_pay2 (best x (shapeCast S8192x32 w shapeCasts_S64x128x32_S8192x32))) shapeCasts_S8192x1_S8192

/-- The zero offsets of a rectangle, as a function. -/
theorem zero_offsets : (![0, 0] : Fin 2 → ℕ) = fun _ => 0 := funext fun a => by fin_cases a <;> rfl

variable (m : (ℓ : Loc nD τ sig) → Buf (Elt F) ℓ)

/-- The block of inputs is the first argument. -/
theorem inputs_eq (c : Dev nD) : iblk m c 0 t0_0 = m ((c : Thread nD τ).loc main_arg0) := by
  have h0 : ∀ a, (cfg0.win 0).index t0_0 a = 0 := by decide +kernel
  funext y
  have e : ((cfg0.win 0).blk t0_0).view.emb y = y := by
    funext a
    refine Fin.ext ?_
    blk_simp
    rw [h0, Nat.zero_mul, Nat.zero_add]
  show V m c main_arg0 (((cfg0.win 0).blk t0_0).view.emb y) = _
  rw [e, V_main_arg0]

/-- The block of units is the second argument, its map of `64 × 128` laid out as a list. -/
theorem units_eq (c : Dev nD) : iblk m c 1 t0_0
    = shapeCast S8192x32 (m ((c : Thread nD τ).loc main_arg1) : FVec F S64x128x32 .f32) shapeCasts_S64x128x32_S8192x32 := by
  have h0 : ∀ a, (cfg0.win 1).index t0_0 a = 0 := by decide +kernel
  funext y
  have e : ((cfg0.win 1).blk t0_0).view.emb y = y := by
    funext a
    refine Fin.ext ?_
    blk_simp
    rw [h0, Nat.zero_mul, Nat.zero_add]
  show V m c main_v0 (((cfg0.win 1).blk t0_0).view.emb y) = _
  rw [e]
  entry_read
  rfl

/-- The first stored array, at the end of the run. -/
theorem stored_cells (c : Dev nD) : (dats m 0 c).arrAt 2 cfg0.N
    = cellsOf (m ((c : Thread nD τ).loc main_arg0)) (m ((c : Thread nD τ).loc main_arg1)) := by
  refine (dats m 0 c).arrAt_eq_of_after_last 2 t0_0 (by decide +kernel) _ fun j => ?_
  rw [after0_2, out2_eq, View.canon_unit_zero zero_offsets, View.ld_unit_zero zero_offsets, View.ld_unit_zero zero_offsets,
    inputs_eq, units_eq]
  blk_simp
  rfl

/-- The second stored array, at the end of the run: a column of roots. -/
theorem stored_roots (c : Dev nD) : (dats m 0 c).arrAt 3 cfg0.N
    = k0_pay2 (best (m ((c : Thread nD τ).loc main_arg0) : FVec F S8192x32 .f32)
        (shapeCast S8192x32 (m ((c : Thread nD τ).loc main_arg1) : FVec F S64x128x32 .f32) shapeCasts_S64x128x32_S8192x32)) := by
  refine (dats m 0 c).arrAt_eq_of_after_last 3 t0_0 (by decide +kernel) _ fun j => ?_
  rw [after0_3, out3_eq, View.canon_unit_zero zero_offsets, View.ld_unit_zero zero_offsets, View.ld_unit_zero zero_offsets,
    inputs_eq, units_eq]
  blk_simp
  rfl

/-- The second result, at the end of the run: the column as a list. -/
theorem errors_eq (c : Dev nD) : Pipeline.afterTail₀ cfgs (dats m) 0 (V0 m) [hostOps1] c main_v2
    = errorOf (m ((c : Thread nD τ).loc main_arg0)) (m ((c : Thread nD τ).loc main_arg1)) := by
  have h : Pipeline.withArrays spec0 c (V0 m c) (fun w => (dats m 0 c).arrAt w cfg0.N) (Proc.devRef .tc main_v1_1) = _ :=
    (Pipeline.withArrays_arr spec0 (by decide) c _ _ 3).trans (stored_roots m c)
  exact congrArg (fun e : FVec F S8192x1 .f32 => shapeCast S8192 e shapeCasts_S8192x1_S8192) h

/-- The run, read at the results and at the arguments. -/
theorem run (g : Dev nD → PrngReg) : θ_run defs (onTc (τ := τ) (main (F := F))) ⟨m, fun _ => 0, g⟩ fun r => ∀ c : Dev nD,
      r.2.mem ((c : Thread nD τ).loc main_v1_0) = cellsOf (m ((c : Thread nD τ).loc main_arg0)) (m ((c : Thread nD τ).loc main_arg1))
      ∧ r.2.mem ((c : Thread nD τ).loc main_v2) = errorOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  run_from run_main m g
  · exact stored_cells m c
  · exact errors_eq m c
  · exact W_main_arg1 m (dats m) c

end Cert.Proof.Tiles
end
-- ==== Proof.First.lean ====
/-
The first position at which a finite family of extended reals is least, and three ways of finding it: a pass that keeps
the least value so far and where it was met; a least value over lanes, and then a least position among the lanes that
hold it; a fold over pairs of a value and a position.
-/
module

public import Idealize.ShloMosaic.PureOps.Ideal.Laws
public import Idealize.ShloMosaic.Lib.WordArith

@[expose] public section
noncomputable section
namespace Cert.Proof.First
open Idealize.ShloMosaic

/-- `k` is the first position at which `f` is least. -/
def IsFirst {n : ℕ} (f : Fin n → EReal) (k : Fin n) : Prop := (∀ j, f k ≤ f j) ∧ ∀ j, j < k → f k < f j

/-- A family with a member has a first least position. -/
theorem exists_isFirst {n : ℕ} (f : Fin (n + 1) → EReal) : ∃ k, IsFirst f k := by
  obtain ⟨k₀, h₀⟩ := Finite.exists_min f
  obtain ⟨k, hk, hmin⟩ := WellFounded.has_min (wellFounded_lt : WellFounded ((· < ·) : Fin (n + 1) → Fin (n + 1) → Prop))
    {k | ∀ j, f k ≤ f j} ⟨k₀, h₀⟩
  refine ⟨k, hk, fun j hj => ?_⟩
  rcases lt_or_eq_of_le (hk j) with h | h
  · exact h
  · exact absurd hj (hmin j fun i => h ▸ hk i)

/-- A pass over `d` that replaces its value `v` by a smaller entry alone, and notes in `i` where: after `n` steps the
    value is the least of `d 0, …, d n` and the note is the first place it stands at. -/
theorem pass (d v : ℕ → EReal) (i : ℕ → BitVec 32) (hv0 : v 0 = d 0) (hv : ∀ n, v (n + 1) = min (v n) (d (n + 1)))
    (hi0 : i 0 = BitVec.ofNat 32 0)
    (hi : ∀ n, i (n + 1) = if d (n + 1) < v n then BitVec.ofNat 32 (n + 1) else i n) (n : ℕ) :
    ∃ t ≤ n, v n = d t ∧ i n = BitVec.ofNat 32 t ∧ (∀ s ≤ n, d t ≤ d s) ∧ ∀ s < t, d t < d s := by
  induction n with
  | zero =>
    refine ⟨0, le_rfl, hv0, hi0, fun s hs => ?_, fun s hs => absurd hs (Nat.not_lt_zero s)⟩
    rw [Nat.le_zero.1 hs]
  | succ n ih =>
    obtain ⟨t, htn, hvt, hit, hle, hlt⟩ := ih
    by_cases h : d (n + 1) < v n
    · refine ⟨n + 1, le_rfl, ?_, ?_, fun s hs => ?_, fun s hs => ?_⟩
      · rw [hv, min_eq_right h.le]
      · rw [hi, if_pos h]
      · rcases Nat.lt_or_ge s (n + 1) with h' | h'
        · exact (h.trans_le (hvt ▸ hle s (Nat.lt_succ_iff.1 h'))).le
        · rw [le_antisymm hs h']
      · exact h.trans_le (hvt ▸ hle s (Nat.lt_succ_iff.1 hs))
    · refine ⟨t, htn.trans n.le_succ, ?_, ?_, fun s hs => ?_, hlt⟩
      · rw [hv, min_eq_left (not_lt.1 h), hvt]
      · rw [hi, if_neg h, hit]
      · rcases Nat.lt_or_ge s (n + 1) with h' | h'
        · exact hle s (Nat.lt_succ_iff.1 h')
        · rw [le_antisymm hs h']
          exact hvt ▸ not_lt.1 h

/-- The signed reading of a word below `2 ^ 31` is the number itself. -/
theorem toInt_word (n : ℕ) (h : n < 2 ^ 31) : (BitVec.ofNat 32 n).toInt = n := by
  have e : (BitVec.ofNat 32 n).toNat = n := by
    rw [BitVec.toNat_ofNat]
    omega
  rw [BitVec.toInt_eq_toNat_of_lt (by omega), e]

/-- A fold by signed minimum of words below `2 ^ 31` is the word of the fold by minimum. -/
theorem fold_minsi {ι : Type} (s : Finset ι) (g : ι → BitVec 32) (p : ι → ℕ) (z : ℕ) (hz : z < 2 ^ 31)
    (hg : ∀ a, g a = BitVec.ofNat 32 (p a)) (hp : ∀ a, p a < 2 ^ 31) :
    s.fold IntOp.minsi (BitVec.ofNat 32 z) g = BitVec.ofNat 32 (s.fold min z p) ∧ s.fold min z p < 2 ^ 31 := by
  classical
  induction s using Finset.cons_induction with
  | empty => exact ⟨rfl, hz⟩
  | cons a s ha ih =>
    obtain ⟨e, hs⟩ := ih
    rw [Finset.fold_cons, Finset.fold_cons, e, hg]
    refine ⟨?_, lt_of_le_of_lt (min_le_right _ _) hs⟩
    unfold IntOp.minsi
    rw [BitVec.slt_eq_decide, toInt_word _ (hp a), toInt_word _ hs]
    by_cases h : p a < s.fold min z p
    · rw [if_pos (by simpa using h), min_eq_left h.le]
    · rw [if_neg (by simpa using h), min_eq_right (not_lt.1 h)]

/-- Least value over lanes, then least position among the lanes that hold it: with `f` laid out in `64` tiles of `128`
    lanes, `v l` the least of lane `l` and `q l` the first tile it stands in, this finds the first least position of `f`,
    and its value. -/
theorem lanes (f : Fin 8192 → EReal) (k : Fin 8192) (hk : IsFirst f k) (v : Fin 128 → EReal) (q : Fin 128 → Fin 64)
    (hv : ∀ l, v l = f ⟨128 * (q l).val + l.val, by omega⟩)
    (hle : ∀ l (s : Fin 64), v l ≤ f ⟨128 * s.val + l.val, by omega⟩)
    (hlt : ∀ l (s : Fin 64), s < q l → v l < f ⟨128 * s.val + l.val, by omega⟩) :
    Finset.univ.fold min ⊤ v = f k
    ∧ Finset.univ.fold min 2147483647 (fun l => if v l = f k then (q l).val * 128 + l.val else 8192) = k.val := by
  have hkl : k.val % 128 < 128 := Nat.mod_lt _ (by decide)
  have hks : k.val / 128 < 64 := by omega
  have hkk : (⟨128 * (k.val / 128) + k.val % 128, by omega⟩ : Fin 8192) = k := Fin.ext (Nat.div_add_mod _ _)
  have hvk : v ⟨k.val % 128, hkl⟩ = f k :=
    le_antisymm ((hle ⟨_, hkl⟩ ⟨_, hks⟩).trans_eq (congrArg f hkk)) (hv ⟨_, hkl⟩ ▸ hk.1 _)
  have hqk : (q ⟨k.val % 128, hkl⟩).val = k.val / 128 := by
    rcases Nat.lt_trichotomy (q ⟨k.val % 128, hkl⟩).val (k.val / 128) with h | h | h
    · refine absurd (hk.2 ⟨128 * (q ⟨k.val % 128, hkl⟩).val + k.val % 128, by omega⟩ (Fin.lt_def.2 ?_)) ?_
      · show 128 * (q ⟨k.val % 128, hkl⟩).val + k.val % 128 < k.val
        omega
      · rw [← hv ⟨k.val % 128, hkl⟩, hvk]
        exact lt_irrefl _
    · exact h
    · refine absurd (hlt ⟨_, hkl⟩ ⟨_, hks⟩ (Fin.lt_def.2 h)) ?_
      rw [hvk, show f ⟨128 * (k.val / 128) + k.val % 128, _⟩ = f k from congrArg f hkk]
      exact lt_irrefl _
  refine ⟨le_antisymm ?_ ?_, le_antisymm ?_ ?_⟩
  · exact (Finset.fold_min_le _).2 (Or.inr ⟨⟨_, hkl⟩, Finset.mem_univ _, hvk.le⟩)
  · refine Finset.le_fold_min _ |>.2 ⟨le_top, fun l _ => hv l ▸ hk.1 _⟩
  · refine (Finset.fold_min_le _).2 (Or.inr ⟨⟨_, hkl⟩, Finset.mem_univ _, ?_⟩)
    show (if v ⟨k.val % 128, hkl⟩ = f k then (q ⟨k.val % 128, hkl⟩).val * 128 + k.val % 128 else 8192) ≤ k.val
    rw [if_pos hvk, hqk]
    omega
  · refine Finset.le_fold_min _ |>.2 ⟨by omega, fun l _ => ?_⟩
    show k.val ≤ if v l = f k then (q l).val * 128 + l.val else 8192
    split
    · rename_i h
      by_contra hc
      refine absurd (hk.2 ⟨128 * (q l).val + l.val, by omega⟩ (Fin.lt_def.2 ?_)) ?_
      · show 128 * (q l).val + l.val < k.val
        omega
      · rw [← hv l, h]
        exact lt_irrefl _
    · omega

/-- A fold by an operation that keeps, of two pairs of a value and a position, the smaller value and of equal values the
    smaller position: over a list holding the first least position of `d` it ends at that position. -/
theorem fold_pairs {n : ℕ} (d : Fin n → EReal) (hd : ∀ k, d k < ⊤)
    (r : EReal × BitVec 32 → EReal × BitVec 32 → EReal × BitVec 32)
    (htop : ∀ k, r (⊤, 0#32) (d k, BitVec.ofNat 32 k.val) = (d k, BitVec.ofNat 32 k.val))
    (hr : ∀ a b : Fin n, r (d a, BitVec.ofNat 32 a.val) (d b, BitVec.ofNat 32 b.val)
      = if d a < d b ∨ d a = d b ∧ a < b then (d a, BitVec.ofNat 32 a.val) else (d b, BitVec.ofNat 32 b.val))
    (k : Fin n) (hk : IsFirst d k) (K : List (Fin n)) (hmem : k ∈ K) :
    (K.map fun j => (d j, BitVec.ofNat 32 j.val)).foldl r (⊤, 0#32) = (d k, BitVec.ofNat 32 k.val) := by
  have step : ∀ (K : List (Fin n)) (a : Fin n), ∃ c,
      (K.map fun j => (d j, BitVec.ofNat 32 j.val)).foldl r (d a, BitVec.ofNat 32 a.val) = (d c, BitVec.ofNat 32 c.val)
      ∧ ∀ j, j = a ∨ j ∈ K → d c < d j ∨ d c = d j ∧ c ≤ j := by
    intro K
    induction K with
    | nil => exact fun a => ⟨a, rfl, fun j hj => Or.inr (by rcases hj with rfl | hj <;> simp_all)⟩
    | cons b K ih =>
      intro a
      rw [List.map_cons, List.foldl_cons, hr]
      by_cases h : d a < d b ∨ d a = d b ∧ a < b
      · rw [if_pos h]
        obtain ⟨c, e, hc⟩ := ih a
        refine ⟨c, e, fun j hj => ?_⟩
        rcases hj with rfl | hj
        · exact hc _ (Or.inl rfl)
        · rcases List.mem_cons.1 hj with rfl | hj
          · rcases hc a (Or.inl rfl) with h1 | ⟨h1, h2⟩ <;> rcases h with h3 | ⟨h3, h4⟩
            · exact Or.inl (h1.trans h3)
            · exact Or.inl (h3 ▸ h1)
            · exact Or.inl (h1 ▸ h3)
            · exact Or.inr ⟨h1.trans h3, h2.trans h4.le⟩
          · exact hc _ (Or.inr hj)
      · rw [if_neg h]
        push Not at h
        obtain ⟨c, e, hc⟩ := ih b
        refine ⟨c, e, fun j hj => ?_⟩
        rcases hj with rfl | hj
        · rcases hc b (Or.inl rfl) with h1 | ⟨h1, h2⟩
          · exact Or.inl (h1.trans_le h.1)
          · rcases lt_or_eq_of_le h.1 with h3 | h3
            · exact Or.inl (h1 ▸ h3)
            · exact Or.inr ⟨h1.trans h3, h2.trans (h.2 h3.symm)⟩
        · rcases List.mem_cons.1 hj with rfl | hj
          · exact hc _ (Or.inl rfl)
          · exact hc _ (Or.inr hj)
  cases K with
  | nil => exact absurd hmem (List.not_mem_nil)
  | cons a K =>
    rw [List.map_cons, List.foldl_cons, htop]
    obtain ⟨c, e, hc⟩ := step K a
    rw [e]
    have : c = k := by
      rcases hc k (List.mem_cons.1 hmem) with h | ⟨h1, h2⟩
      · exact absurd h (not_lt.2 (hk.1 c))
      · rcases lt_or_eq_of_le h2 with h3 | h3
        · exact absurd (hk.2 c h3) (by rw [h1]; exact lt_irrefl _)
        · exact h3
    rw [this]

end Cert.Proof.First
end
-- ==== Proof.TilesAt.lean ====
/-
The kernel's stored arrays read at an index: the cell, and the root of the distance, of the first unit at which the
row of distances is least.
-/
module

public import proofs.«01_k».proof.Proof.Tiles
public import proofs.«01_k».proof.Proof.First
public import Idealize.ShloMosaic.PureOps.Ideal.Laws
public import Idealize.ShloMosaic.Lib.Pointwise
public import Idealize.ShloMosaic.Lib.Routing.Words

@[expose] public section
set_option maxRecDepth 16384
noncomputable section
namespace Cert.Proof.Tiles
open Idealize.ShloMosaic Idealize.ShloMosaic.TcCoe Idealize.SL.Sem
open Cert.KernelIdeal Cert.KernelIdeal.Gen
open Cert.Proof.First

/-- The distance from input `b` to unit `k`, as the kernel sums it. -/
def near (x w : FVec Ideal S8192x32 .f32) (b k : Fin 8192) : EReal :=
  ∑ i, x (ix2 b i) * x (ix2 b i) + ∑ i, x (ix2 b i) * Ideal.ofBits .f32 0xC0000000#32 * w (ix2 k i)
    + ∑ i, w (ix2 k i) * w (ix2 k i)

/-- Lane `l` of tile `t` holds the distances to unit `128 t + l`. -/
theorem tile_ap (x w : FVec Ideal S8192x32 .f32) (b : Fin 8192) (t : Fin 64) (l : Fin 128) :
    tile x w t.val (ix2 b l) = near x w b ⟨128 * t.val + l.val, by omega⟩ := by
  have h1 : (⟨1024 * (t.val / 8 % 8) + (128 * (t.val % 8) + l.val), by omega⟩ : Fin 8192) = ⟨128 * t.val + l.val, by omega⟩ :=
    Fin.ext (by show 1024 * (t.val / 8 % 8) + (128 * (t.val % 8) + l.val) = 128 * t.val + l.val; omega)
  have h2 : (⟨128 * (t.val % 64) + l.val, by omega⟩ : Fin 8192) = ⟨128 * t.val + l.val, by omega⟩ :=
    Fin.ext (by show 128 * (t.val % 64) + l.val = 128 * t.val + l.val; omega)
  unfold tile chunk near
  pointwise [k0_pay3, k0_pay4, k0_pay5, k0_pay6]
  refine congrArg₂ (· + ·) (congrArg₂ (· + ·) rfl (Finset.sum_congr rfl fun i _ => ?_)) (Finset.sum_congr rfl fun i _ => ?_)
  · exact congrArg (fun u => x (ix2 b i) * Ideal.ofBits .f32 0xC0000000#32 * w (ix2 u i)) h1
  · exact congrArg (fun u => w (ix2 u i) * w (ix2 u i)) h2

/-- The first step's values. -/
theorem runVal_zero (x w : FVec Ideal S8192x32 .f32) : runVal x w 0 = tile x w 0 := rfl

/-- A step keeps the smaller of the value so far and the tile's. -/
theorem runVal_succ (x w : FVec Ideal S8192x32 .f32) (b : Fin 8192) (l : Fin 128) (n : ℕ) :
    runVal x w (n + 1) (ix2 b l) = min (runVal x w n (ix2 b l)) (tile x w (n + 1) (ix2 b l)) := by
  rw [runVal]
  generalize runVal x w n = v
  generalize tile x w (n + 1) = d
  pointwise

/-- The first step's notes. -/
theorem runIdx_zero (x w : FVec Ideal S8192x32 .f32) (b : Fin 8192) (l : Fin 128) : runIdx x w 0 (ix2 b l) = BitVec.ofNat 32 0 := rfl

/-- A step notes its number where the tile's value is smaller. -/
theorem runIdx_succ (x w : FVec Ideal S8192x32 .f32) (b : Fin 8192) (l : Fin 128) (n : ℕ) :
    runIdx x w (n + 1) (ix2 b l)
      = if tile x w (n + 1) (ix2 b l) < runVal x w n (ix2 b l) then BitVec.ofNat 32 (n + 1) else runIdx x w n (ix2 b l) := by
  rw [runIdx]
  generalize runVal x w n = v
  generalize tile x w (n + 1) = d
  generalize runIdx x w n = i
  pointwise

/-- After the last tile a lane holds its least distance and the first tile it stands in. -/
theorem lane_ap (x w : FVec Ideal S8192x32 .f32) (b : Fin 8192) (l : Fin 128) : ∃ q : Fin 64,
    runVal x w 63 (ix2 b l) = near x w b ⟨128 * q.val + l.val, by omega⟩
    ∧ runIdx x w 63 (ix2 b l) = BitVec.ofNat 32 q.val
    ∧ (∀ s : Fin 64, runVal x w 63 (ix2 b l) ≤ near x w b ⟨128 * s.val + l.val, by omega⟩)
    ∧ ∀ s : Fin 64, s < q → runVal x w 63 (ix2 b l) < near x w b ⟨128 * s.val + l.val, by omega⟩ := by
  obtain ⟨t, ht, hv, hi, hle, hlt⟩ := pass (fun n => tile x w n (ix2 b l)) (fun n => runVal x w n (ix2 b l))
    (fun n => runIdx x w n (ix2 b l)) rfl (runVal_succ x w b l) (runIdx_zero x w b l) (runIdx_succ x w b l) 63
  have hq : t < 64 := by omega
  refine ⟨⟨t, hq⟩, hv.trans (tile_ap x w b ⟨t, hq⟩ l), hi, fun s => ?_, fun s hs => ?_⟩
  · rw [← tile_ap x w b s l, hv]
    exact hle s.val (by omega)
  · rw [← tile_ap x w b s l, hv]
    exact hlt s.val hs

/-- The root the kernel stores, over the least values of the lanes. -/
theorem root_ap (v : FVec Ideal S8192x1 .f32) (b : Fin 8192) :
    k0_pay2 v (ix2 b 0) = Ideal.sqrt (max (v (ix2 b 0)) 0) := by
  pointwise [k0_pay2]

/-- The least value of an input over the lanes. -/
theorem best_ap (x w : FVec Ideal S8192x32 .f32) (b : Fin 8192) :
    best x w (ix2 b 0) = Finset.univ.fold min (Ideal.ofBits .f32 0x7F800000#32) fun l => runVal x w 63 (ix2 b l) := by
  unfold best
  generalize runVal x w 63 = v
  pointwise

/-- The unit the kernel finds, as a least position over the lanes that hold the least value. -/
theorem bestUnit_ap (x w : FVec Ideal S8192x32 .f32) (b : Fin 8192) :
    bestUnit x w (ix2 b 0) = Finset.univ.fold IntOp.minsi 2147483647#32 fun l : Fin 128 =>
      if runVal x w 63 (ix2 b l) = best x w (ix2 b 0) then
        IntOp.addi (IntOp.muli (runIdx x w 63 (ix2 b l)) 128#32) (BitVec.ofNat 32 l.val)
      else 8192#32 := by
  unfold bestUnit
  generalize runVal x w 63 = v
  generalize runIdx x w 63 = i
  generalize best x w = m
  pointwise

/-- Both at once: the kernel's least value is the least distance, and its unit the first at which it stands. -/
theorem best_first (x w : FVec Ideal S8192x32 .f32) (b k : Fin 8192) (hk : IsFirst (near x w b) k) :
    best x w (ix2 b 0) = near x w b k ∧ bestUnit x w (ix2 b 0) = BitVec.ofNat 32 k.val := by
  have htop : Ideal.ofBits .f32 0x7F800000#32 = ⊤ := by simp [Ideal.ofBits, Ideal.ieee]
  choose q hv hi hle hlt using lane_ap x w b
  obtain ⟨e, hu⟩ := lanes (near x w b) k hk (fun l => runVal x w 63 (ix2 b l)) q hv hle hlt
  have hb : best x w (ix2 b 0) = near x w b k := by rw [best_ap, htop, e]
  refine ⟨hb, ?_⟩
  rw [bestUnit_ap, hb]
  have hf := (fold_minsi Finset.univ
    (fun l : Fin 128 => if runVal x w 63 (ix2 b l) = near x w b k then
        IntOp.addi (IntOp.muli (runIdx x w 63 (ix2 b l)) 128#32) (BitVec.ofNat 32 l.val) else 8192#32)
    (fun l => if runVal x w 63 (ix2 b l) = near x w b k then (q l).val * 128 + l.val else 8192) 2147483647 (by norm_num)
    (fun l => ?_) (fun l => ?_)).1
  · rw [hu] at hf
    exact hf
  · by_cases h : runVal x w 63 (ix2 b l) = near x w b k
    · rw [if_pos h, if_pos h, hi]
      refine BitVec.eq_of_toNat_eq ?_
      simp [IntOp.addi, IntOp.muli]
    · rw [if_neg h, if_neg h]
  · split
    · omega
    · norm_num

/-- The list of a column of roots. -/
theorem list_ap (e : FVec Ideal S8192x1 .f32) (b : Fin 8192) :
    shapeCast S8192 e shapeCasts_S8192x1_S8192 (ix1 b) = e (ix2 b 0) := by
  pointwise

/-- The row in the map of a unit. -/
theorem cells_row (u : IVec S8192x1 32) (b : Fin 8192) (n : ℕ) (hn : n < 2 ^ 31) (hu : u (ix2 b 0) = BitVec.ofNat 32 n) :
    cells u (ix2 b 0) = BitVec.ofNat 32 (n / 128) := by
  have hq := Routing.divsi_word .vector hn (b := 128) (by decide) (by decide)
  have hr := Routing.remsi_word .vector hn (b := 128) (by decide) (by decide)
  pointwise [cells, k0_pay1, k0_pay174, k0_pay175]
  rw [hu, hq, hr]
  rcases Nat.eq_zero_or_pos n with rfl | h0
  · rfl
  · have hlt : ¬ (n : ℤ) < 0 := by omega
    have hgt : (0 : ℤ) < n := by omega
    have e : IntOp.cmpi .slt (BitVec.ofNat 32 n) 0#32 = 0#1 := by
      simp only [IntOp.cmpi, BitVec.slt, toInt_word n hn, BitVec.toInt_zero, hlt]
      rfl
    have e' : IntOp.cmpi .sgt (BitVec.ofNat 32 n) 0#32 = 1#1 := by
      simp only [IntOp.cmpi, BitVec.slt, toInt_word n hn, BitVec.toInt_zero, hgt]
      rfl
    rw [e, e']
    show Scalar.select (IntOp.andi 0#1 _) _ _ = _
    simp [IntOp.andi, Scalar.select]

/-- The column in the map of a unit. -/
theorem cells_col (u : IVec S8192x1 32) (b : Fin 8192) (n : ℕ) (hn : n < 2 ^ 31) (hu : u (ix2 b 0) = BitVec.ofNat 32 n) :
    cells u (ix2 b 1) = BitVec.ofNat 32 (n % 128) := by
  have hr := Routing.remsi_word .vector hn (b := 128) (by decide) (by decide)
  have hd : Scalar.select (Scalar.cmpi .eq 128#32 0#32) 1#32 128#32 = BitVec.ofNat 32 128 := rfl
  pointwise [cells, k0_pay1, k0_pay174, k0_pay175]
  have hlt : ¬ ((n % 128 : ℕ) : ℤ) < 0 := by omega
  have e : IntOp.cmpi .slt (BitVec.ofNat 32 (n % 128)) 0#32 = 0#1 := by
    simp only [IntOp.cmpi, BitVec.slt, toInt_word (n % 128) (by omega), BitVec.toInt_zero, hlt]
    rfl
  rw [hu, hd, hr, e]
  show Scalar.select (IntOp.andi 0#1 _) _ _ = _
  simp [IntOp.andi, Scalar.select]

end Cert.Proof.Tiles
end
-- ==== Proof.RefAt.lean ====
/-
The reference's two results read at an index: the cell, and the root of the distance, of the first unit at which the
row of distances is least.
-/
module

public import proofs.«01_k».proof.Proof.RefRun
public import proofs.«01_k».proof.Proof.First
public import Idealize.ShloMosaic.PureOps.Ideal.Laws
public import Idealize.ShloMosaic.Lib.Pointwise
public import Idealize.ShloMosaic.Lib.Routing.Words

@[expose] public section
set_option maxRecDepth 16384
noncomputable section
namespace Cert.Proof.Ref
open Idealize.ShloMosaic Idealize.ShloMosaic.TcCoe Idealize.SL.Sem
open Cert.ReferenceIdeal Cert.ReferenceIdeal.Gen
open Cert.Proof.First

/-- A distance: the two sums of squares less twice the sum of products, or zero if that is negative. -/
theorem dist_ap (x w : FVec Ideal S8192x32 .f32) (b k : Fin 8192) :
    dist x w (ix2 b k)
      = max (∑ i, x (ix2 b i) * x (ix2 b i) - Ideal.ofBits .f32 0x40000000#32 * ∑ i, x (ix2 b i) * w (ix2 k i)
          + ∑ i, w (ix2 k i) * w (ix2 k i)) 0 := by
  pointwise [dist]

/-- How the gather reads its operand: along each row, at one position per row. -/
abbrev along : GatherDims S8192x8192 S8192x1x1 S8192x1 := gather_S8192x8192_S8192x1x1_S8192x1_n_1_0_0_1_2_11

/-- The gather takes from each row the entry at that row's position. -/
theorem gather_ap (d : FVec Ideal S8192x8192 .f32) (i : IVec S8192x1x1 32) (b k : Fin 8192)
    (hi : i (ix3 b 0 0) = BitVec.ofNat 32 k.val) : Host.gather along d i (ix2 b 0) = d (ix2 b k) := by
  have hk : (BitVec.ofNat 32 k.val).toInt = k.val := toInt_word _ (by have := k.isLt; omega)
  have hrow : (0 : Fin 2) ∈ along.operandBatchingDims := List.mem_singleton.mpr rfl
  have hcol : (1 : Fin 2) ∈ along.startIndexMap := List.mem_singleton.mpr rfl
  have h0 : along.start (ix2 b 0) i 0 + along.batchCoord (ix2 b 0) 0 + along.offCoord (ix2 b 0) 0 = b.val := by
    rw [along.start_batching _ _ _ hrow,
      along.offCoord_eq_zero _ _ fun h => ((along.mem_sKept _).mp h).2 hrow]
    unfold GatherDims.batchCoord
    rw [dif_pos hrow, Nat.zero_add, Nat.add_zero]
    rfl
  have h1 : along.start (ix2 b 0) i 1 + along.batchCoord (ix2 b 0) 1 + along.offCoord (ix2 b 0) 1 = k.val := by
    rw [along.batchCoord_eq_zero _ _ fun h => absurd (List.mem_singleton.mp h) (by decide),
      along.offCoord_eq_zero _ _ fun h => ((along.mem_sKept _).mp h).1 (List.mem_singleton.mpr rfl)]
    have hs : along.siIdx (ix2 b 0) ⟨along.startIndexMap.idxOf 1, List.idxOf_lt_length_iff.2 hcol⟩ = ix3 b 0 0 := by
      funext c
      refine Fin.ext ?_
      match c with
      | ⟨0, _⟩ => rfl
      | ⟨1, _⟩ => rfl
      | ⟨2, _⟩ => rfl
    unfold GatherDims.start
    rw [dif_pos hcol, hs, hi, hk]
    have h : along.sliceSizes 1 = 1 := rfl
    have h' : S8192x8192.size 1 = 8192 := rfl
    rw [h, h', Int.toNat_natCast]
    have := k.isLt
    omega
  unfold Host.gather
  refine congrArg d (funext fun a => Fin.ext ?_)
  match a with
  | ⟨0, _⟩ => exact h0
  | ⟨1, _⟩ => exact h1

/-- The column of positions holds, in the shape the gather wants, the positions themselves. -/
theorem wrapped_ap (i : IVec S8192x1 32) (b k : Fin 8192) (hi : i (ix2 b 0) = BitVec.ofNat 32 k.val) :
    wrapped i (ix3 b 0 0) = BitVec.ofNat 32 k.val := by
  pointwise [wrapped]
  have hneg : ¬ (k.val : ℤ) < 0 := by omega
  rw [hi]
  simp only [IntOp.cmpi, BitVec.slt, toInt_word k.val (by have := k.isLt; omega), BitVec.toInt_zero, hneg, Scalar.select]
  rfl

/-- Reading a table along a column of positions gives each row's entry at its position. -/
theorem takeAlong_ap (d : FVec Ideal S8192x8192 .f32) (i : IVec S8192x1 32) (b k : Fin 8192)
    (hi : i (ix2 b 0) = BitVec.ofNat 32 k.val) : takeAlong d i (ix2 b 0) = d (ix2 b k) := by
  have hw := wrapped_ap i b k hi
  unfold takeAlong
  generalize wrapped i = q at hw ⊢
  have hg := gather_ap d q b k hw
  unfold along at hg
  pointwise
  have hk : (BitVec.ofNat 32 k.val).toInt = k.val := toInt_word _ (by have := k.isLt; omega)
  have hin : (k.val : ℤ) ≤ 8191 := by have := k.isLt; omega
  rw [hg, Finset.univ_unique, Finset.fold_singleton, show (default : Fin 1) = 0 from rfl, hw]
  simp [IntOp.cmpi, IntOp.andi, BitVec.sle, hk, hin, Scalar.select]

/-- The reducer keeps the pair of smaller value, and of two equal values the smaller position. -/
theorem reducer_ap (u v : EReal) (i j : ℕ) (hi : i < 2 ^ 31) (hj : j < 2 ^ 31) :
    reducer_argmin_f32_i32 (F := Ideal) (u, BitVec.ofNat 32 i) (v, BitVec.ofNat 32 j)
      = if u < v ∨ u = v ∧ i < j then (u, BitVec.ofNat 32 i) else (v, BitVec.ofNat 32 j) := by
  have hij : (BitVec.ofNat 32 i).slt (BitVec.ofNat 32 j) = decide (i < j) := by
    rw [BitVec.slt_eq_decide, toInt_word i hi, toInt_word j hj]
    simp
  unfold reducer_argmin_f32_i32
  simp only [Ideal.cmpf_def, Ideal.cmp, IntOp.cmpi, hij]
  rcases lt_trichotomy u v with h | rfl | h
  · simp [h, h.ne, IntOp.ori, IntOp.andi, Scalar.select]
  · by_cases hl : i < j <;> simp [hl, IntOp.ori, IntOp.andi, Scalar.select]
  · simp [h.not_gt, h.ne', IntOp.ori, IntOp.andi, Scalar.select]

/-- Reducing each row of a table and the positions in it by such an operation gives the row's first least position. -/
theorem argReduce_ap {m n : ℕ} (d : (⟨2, ![m, n]⟩ : Shape).Idx → EReal) (y : (⟨2, ![m, n]⟩ : Shape).Idx → BitVec 32)
    (ix : S_.Idx → EReal) (iy : S_.Idx → BitVec 32) (h : (⟨2, ![m, n]⟩ : Shape).ReducesTo [1] ⟨1, ![m]⟩)
    (hy : ∀ p, y p = BitVec.ofNat 32 (p 1).val) (hix : ∀ p, ix p = ⊤) (hiy : ∀ p, iy p = 0#32) (hn : n < 2 ^ 31)
    (b : Fin m) (k : Fin n) (hd : ∀ j, d (ix2 b j) < ⊤) (hk : IsFirst (fun j => d (ix2 b j)) k) :
    Host.argReduce (φ := .f32) (reducer_argmin_f32_i32 (F := Ideal)) d y ix iy h h_S_ (ix1 b)
      = (d (ix2 b k), BitVec.ofNat 32 k.val) := by
  rw [Ideal.argReduce_eq_reduce2, Host.reduce2_eq_foldl_fiber, hix, hiy]
  unfold Host.argReduceFiber
  have hrow : ∀ p : (⟨2, ![m, n]⟩ : Shape).Idx, h.drop p = ix1 b ↔ p 0 = b := by
    intro p
    have hv : (h.drop p 0 : ℕ) = p 0 := rfl
    constructor
    · intro e
      exact Fin.ext (hv.symm.trans (by rw [e]; rfl))
    · intro e
      funext a
      obtain rfl : a = 0 := Subsingleton.elim _ _
      exact Fin.ext (hv.trans (by rw [e]; rfl))
  have hp : ∀ p : (⟨2, ![m, n]⟩ : Shape).Idx, p 0 = b → p = ix2 b (p 1) := by
    intro p e
    funext a
    match a with
    | ⟨0, _⟩ => exact e
    | ⟨1, _⟩ => rfl
  let col (i : Fin (⟨2, ![m, n]⟩ : Shape).numel) : Fin n := (⟨2, ![m, n]⟩ : Shape).rowMajor.symm i 1
  let g (j : Fin n) : EReal × BitVec 32 := (d (ix2 b j), BitVec.ofNat 32 j.val)
  rw [List.map_congr_left (g := g ∘ col) fun i hi =>
    Prod.ext (congrArg d (hp _ ((hrow _).1 (of_decide_eq_true (List.mem_filter.1 hi).2)))) (hy _), ← List.map_map]
  refine fold_pairs (fun j => d (ix2 b j)) hd _ (fun j => ?_) (fun i j => ?_) k hk _ ?_
  · rw [show (0#32) = BitVec.ofNat 32 0 from rfl, reducer_ap _ _ _ _ (by decide) (by have := j.isLt; omega)]
    exact if_neg fun hc => hc.elim (fun h => absurd h (not_top_lt)) fun h => (hd j).ne h.1.symm
  · exact reducer_ap _ _ _ _ (by have := i.isLt; omega) (by have := j.isLt; omega)
  · refine List.mem_map.2 ⟨(⟨2, ![m, n]⟩ : Shape).rowMajor (ix2 b k), List.mem_filter.2 ⟨List.mem_finRange _, ?_⟩, ?_⟩
    · rw [Equiv.symm_apply_apply]
      exact decide_eq_true ((hrow _).2 rfl)
    · exact congrArg (fun p : (⟨2, ![m, n]⟩ : Shape).Idx => (p 1 : Fin n)) (Equiv.symm_apply_apply _ _)

/-- The list of positions, read off the row-by-row reduction. -/
theorem argmin_eq (d : FVec Ideal S8192x8192 .f32) :
    argmin d = fun j => (Host.argReduce reducer_argmin_f32_i32 d (iotaInDim S8192x8192 32 1)
      (constant S_ .f32 0x7F800000#32) (constantI S_ 32 0#32) reducesTo_S8192x8192_S8192_d1 h_S_ j).2 := rfl

/-- The position the reference finds in a row of distances below infinity is the first at which the row is least. -/
theorem argmin_ap (d : FVec Ideal S8192x8192 .f32) (b k : Fin 8192) (hd : ∀ j, d (ix2 b j) < ⊤)
    (hk : IsFirst (fun j => d (ix2 b j)) k) : argmin d (ix1 b) = BitVec.ofNat 32 k.val := by
  have htop : Ideal.ofBits .f32 0x7F800000#32 = ⊤ := by simp [Ideal.ofBits, Ideal.ieee]
  have h := argReduce_ap d (iotaInDim S8192x8192 32 1) (constant (F := Ideal) S_ .f32 0x7F800000#32)
    (constantI S_ 32 0#32) reducesTo_S8192x8192_S8192_d1 (fun _ => rfl) (fun _ => htop) (fun _ => rfl) (by norm_num) b k hd hk
  exact (congrFun (argmin_eq d) (ix1 b)).trans (congrArg Prod.snd h)

/-- Division rounded down of a small number by 128. -/
theorem floorDiv_ap (a : IVec S8192 32) (b : Fin 8192) (n : ℕ) (hn : n < 2 ^ 31) (ha : a (ix1 b) = BitVec.ofNat 32 n) :
    floorDiv a (constantI S_ 32 128#32) (ix1 b) = BitVec.ofNat 32 (n / 128) := by
  have hm : (BitVec.ofNat 32 n).msb = false := Routing.msb_ofNat32 hn
  have hq := Routing.divsi_word .host hn (b := 128) (by decide) (by decide)
  have hr := Routing.remsi_word .host hn (b := 128) (by decide) (by decide)
  pointwise [floorDiv]
  rw [ha, hq, hr, hm]
  rcases Nat.eq_zero_or_pos n with rfl | h0
  · rfl
  · rw [if_neg (Routing.ofNat32_ne_zero h0 (by omega))]
    rw [if_neg Bool.false_ne_true]
    show Scalar.select (IntOp.andi (IntOp.cmpi .ne 1#32 1#32) _) _ _ = _
    simp [IntOp.cmpi, IntOp.andi, Scalar.select]

/-- The remainder of a small number by 128. -/
theorem floorMod_ap (a : IVec S8192 32) (b : Fin 8192) (n : ℕ) (hn : n < 2 ^ 31) (ha : a (ix1 b) = BitVec.ofNat 32 n) :
    floorMod a (constantI S_ 32 128#32) (ix1 b) = BitVec.ofNat 32 (n % 128) := by
  have hr := Routing.remsi_word .host hn (b := 128) (by decide) (by decide)
  have hs : IntOp.cmpi .slt (BitVec.ofNat 32 (n % 128)) 0#32 = 0#1 := by
    have hneg : ¬ ((n % 128 : ℕ) : ℤ) < 0 := by omega
    simp only [IntOp.cmpi, BitVec.slt, toInt_word (n % 128) (by omega), BitVec.toInt_zero, hneg]
    rfl
  have hd : Scalar.select (IntOp.cmpi .eq 128#32 0#32) 1#32 128#32 = BitVec.ofNat 32 128 := rfl
  pointwise [floorMod, divisor]
  rw [ha, hd, hr, hs]
  simp [IntOp.cmpi, IntOp.andi, Scalar.select]

/-- The first component of a pair of columns. -/
theorem pair_fst (p q : IVec S8192x1 32) (b : Fin 8192) : pair p q (ix2 b 0) = p (ix2 b 0) := by
  pointwise [pair]

/-- The second component of a pair of columns. -/
theorem pair_snd (p q : IVec S8192x1 32) (b : Fin 8192) : pair p q (ix2 b 1) = q (ix2 b 0) := by
  pointwise [pair]

/-- A list of positions as a column. -/
theorem column_ap (a : IVec S8192 32) (b : Fin 8192) :
    broadcastInDim S8192x1 ![0] bcast_S8192_S8192x1_0 a (ix2 b 0) = a (ix1 b) := by
  pointwise

/-- The list of roots of a column. -/
theorem roots_ap (e : FVec Ideal S8192x1 .f32) (b : Fin 8192) :
    shapeCast S8192 (Host.sqrt e) shapeCasts_S8192x1_S8192 (ix1 b) = Ideal.sqrt (e (ix2 b 0)) := by
  pointwise

section Results
variable (x : FVec Ideal S8192x32 .f32) (w : FVec Ideal S64x128x32 .f32) (b k : Fin 8192)
  (hd : ∀ j, dist x (shapeCast S8192x32 w shapeCasts_S64x128x32_S8192x32) (ix2 b j) < ⊤)
  (hk : IsFirst (fun j => dist x (shapeCast S8192x32 w shapeCasts_S64x128x32_S8192x32) (ix2 b j)) k)
include hd hk

/-- The reference's first result at an input: the row of the unit nearest to it, -/
theorem refCells_row : refCells x w (ix2 b 0) = BitVec.ofNat 32 (k.val / 128) := by
  unfold refCells
  rw [pair_fst, column_ap]
  exact floorDiv_ap _ b k.val (by have := k.isLt; omega) (argmin_ap _ b k hd hk)

/-- and the unit's column. -/
theorem refCells_col : refCells x w (ix2 b 1) = BitVec.ofNat 32 (k.val % 128) := by
  unfold refCells
  rw [pair_snd, column_ap]
  exact floorMod_ap _ b k.val (by have := k.isLt; omega) (argmin_ap _ b k hd hk)

/-- The reference's second result at an input: the root of the distance to that unit. -/
theorem refError_ap : refError x w (ix1 b)
    = Ideal.sqrt (dist x (shapeCast S8192x32 w shapeCasts_S64x128x32_S8192x32) (ix2 b k)) := by
  unfold refError
  rw [roots_ap, takeAlong_ap _ _ b k ((column_ap _ b).trans (argmin_ap _ b k hd hk))]

end Results

end Cert.Proof.Ref
end
-- ==== Proof.Distance.lean ====
/-
The equation of the two sums: over real arguments the kernel's distance and the reference's are both the sum of the
squared differences. The kernel's is not clamped at zero and the reference's is; the sum is not negative.
-/
module

public import proofs.«01_k».proof.Proof.TilesAt
public import proofs.«01_k».proof.Proof.RefAt

@[expose] public section
noncomputable section
namespace Cert.Proof.Distance
open Idealize.ShloMosaic

/-- A sum of reals is the same sum over the extended reals. -/
theorem coe_sum {n : ℕ} (f : Fin n → ℝ) : ((∑ i, f i : ℝ) : EReal) = ∑ i, (f i : EReal) := by
  induction (Finset.univ : Finset (Fin n)) using Finset.cons_induction with
  | empty => rfl
  | cons a s ha ih => rw [Finset.sum_cons, Finset.sum_cons, EReal.coe_add, ih]

/-- The squared distance of two real vectors. -/
def sq {n : ℕ} (x w : Fin n → ℝ) : ℝ := ∑ i, (x i - w i) ^ 2

/-- A squared distance is not negative. -/
theorem sq_nonneg {n : ℕ} (x w : Fin n → ℝ) : 0 ≤ sq x w := Finset.sum_nonneg fun i _ => _root_.sq_nonneg _

/-- The kernel's three sums add up to the squared distance. -/
theorem termwise {n : ℕ} (x w : Fin n → ℝ) :
    ∑ i, (x i : EReal) * x i + ∑ i, (x i : EReal) * Ideal.ofBits .f32 0xC0000000#32 * w i + ∑ i, (w i : EReal) * w i
      = (sq x w : EReal) := by
  have h2 : Ideal.ofBits .f32 0xC0000000#32 = ((-2 : ℝ) : EReal) := by
    simp [Ideal.ofBits, Ideal.ieee]
    rw [← EReal.coe_mul]
    norm_num
  rw [h2]
  simp only [← EReal.coe_mul, ← coe_sum, ← EReal.coe_add]
  refine congrArg _ ?_
  rw [sq, ← Finset.sum_add_distrib, ← Finset.sum_add_distrib]
  exact Finset.sum_congr rfl fun i _ => by ring

/-- The reference's three sums, clamped at zero, come to the squared distance. -/
theorem clamped {n : ℕ} (x w : Fin n → ℝ) :
    max (∑ i, (x i : EReal) * x i - Ideal.ofBits .f32 0x40000000#32 * ∑ i, (x i : EReal) * w i + ∑ i, (w i : EReal) * w i) 0
      = (sq x w : EReal) := by
  have h2 : Ideal.ofBits .f32 0x40000000#32 = ((2 : ℝ) : EReal) := by
    simp [Ideal.ofBits, Ideal.ieee]
    rw [← EReal.coe_mul]
    norm_num
  rw [h2]
  simp only [← EReal.coe_mul, ← coe_sum, ← EReal.coe_sub, ← EReal.coe_add]
  have e : ∑ i, x i * x i - 2 * ∑ i, x i * w i + ∑ i, w i * w i = sq x w := by
    rw [sq, Finset.mul_sum, ← Finset.sum_sub_distrib, ← Finset.sum_add_distrib]
    exact Finset.sum_congr rfl fun i _ => by ring
  rw [e]
  exact max_eq_left (EReal.coe_nonneg.2 (sq_nonneg x w))

/-- Row `b` of a table as reals. -/
def row (x : FVec Ideal ⟨2, ![8192, 32]⟩ .f32) (b : Fin 8192) (i : Fin 32) : ℝ := EReal.toReal (x (ix2 b i))

/-- A table with no infinity holds its rows' reals. -/
theorem row_ap (x : FVec Ideal ⟨2, ![8192, 32]⟩ .f32) (hx : ∀ i, x i ≠ ⊤ ∧ x i ≠ ⊥) (b : Fin 8192) (i : Fin 32) :
    x (ix2 b i) = (row x b i : EReal) := (EReal.coe_toReal (hx _).1 (hx _).2).symm

/-- Over tables with no infinity the kernel's distance is the squared distance, -/
theorem near_eq (x w : FVec Ideal ⟨2, ![8192, 32]⟩ .f32) (hx : ∀ i, x i ≠ ⊤ ∧ x i ≠ ⊥) (hw : ∀ i, w i ≠ ⊤ ∧ w i ≠ ⊥)
    (b k : Fin 8192) : Tiles.near x w b k = (sq (row x b) (row w k) : EReal) := by
  unfold Tiles.near
  simp only [row_ap x hx, row_ap w hw]
  exact termwise _ _

/-- and so is the reference's. -/
theorem dist_eq (x w : FVec Ideal ⟨2, ![8192, 32]⟩ .f32) (hx : ∀ i, x i ≠ ⊤ ∧ x i ≠ ⊥) (hw : ∀ i, w i ≠ ⊤ ∧ w i ≠ ⊥)
    (b k : Fin 8192) : Ref.dist x w (ix2 b k) = (sq (row x b) (row w k) : EReal) := by
  rw [Ref.dist_ap]
  simp only [row_ap x hx, row_ap w hw]
  exact clamped _ _

end Cert.Proof.Distance
end
-- ==== Proof.Equation.lean ====
/-
The equation: over arguments with no infinity the kernel's two results are the reference's. Both find the first unit
whose squared distance is least; the kernel takes the root of that distance, and so does the reference.
-/
module

public import proofs.«01_k».proof.Proof.KernelRun
public import proofs.«01_k».proof.Proof.Distance

@[expose] public section
set_option maxRecDepth 16384
noncomputable section
namespace Cert.Proof.Equation
open Idealize.ShloMosaic
open Cert.Proof.First Cert.Proof.Distance

/-- The map of units laid out as a list. -/
abbrev list (w : FVec Ideal ⟨3, ![64, 128, 32]⟩ .f32) : FVec Ideal ⟨2, ![8192, 32]⟩ .f32 :=
  shapeCast ⟨2, ![8192, 32]⟩ w Cert.ReferenceIdeal.Gen.shapeCasts_S64x128x32_S8192x32

variable (x : FVec Ideal ⟨2, ![8192, 32]⟩ .f32) (w : FVec Ideal ⟨3, ![64, 128, 32]⟩ .f32)
  (hx : ∀ i, x i ≠ ⊤ ∧ x i ≠ ⊥) (hw : ∀ i, w i ≠ ⊤ ∧ w i ≠ ⊥)
include hx hw

/-- Each input has a first least unit, for the kernel's distances and for the reference's, at one real distance. -/
theorem first (b : Fin 8192) : ∃ k : Fin 8192, IsFirst (Tiles.near x (list w) b) k
    ∧ IsFirst (fun j => Ref.dist x (list w) (ix2 b j)) k ∧ (∀ j, Ref.dist x (list w) (ix2 b j) < ⊤)
    ∧ Tiles.near x (list w) b k = Ref.dist x (list w) (ix2 b k) ∧ 0 ≤ Tiles.near x (list w) b k := by
  have hl : ∀ i, list w i ≠ ⊤ ∧ list w i ≠ ⊥ := fun i => hw _
  have e : (fun j => Ref.dist x (list w) (ix2 b j)) = Tiles.near x (list w) b :=
    funext fun j => (dist_eq x (list w) hx hl b j).trans (near_eq x (list w) hx hl b j).symm
  obtain ⟨k, hk⟩ := exists_isFirst (n := 8191) (Tiles.near x (list w) b)
  refine ⟨k, hk, e ▸ hk, fun j => ?_, (congrFun e k).symm, ?_⟩
  · rw [dist_eq x (list w) hx hl]
    exact EReal.coe_lt_top _
  · rw [near_eq x (list w) hx hl]
    exact EReal.coe_nonneg.2 (Distance.sq_nonneg _ _)

/-- The first results are equal: the same cells. -/
theorem cells_eq : Tiles.cellsOf x w = Ref.refCells x w := by
  funext i
  obtain ⟨b, c, rfl⟩ : ∃ (b : Fin 8192) (c : Fin 2), i = ix2 b c := ⟨i 0, i 1, funext fun a => by fin_cases a <;> rfl⟩
  obtain ⟨k, hk, hr, hd, -, -⟩ := first x w hx hw b
  have hn : k.val < 2 ^ 31 := by have := k.isLt; omega
  have hu := (Tiles.best_first x (list w) b k hk).2
  match c with
  | ⟨0, _⟩ => exact (Tiles.cells_row _ b k.val hn hu).trans (Ref.refCells_row x w b k hd hr).symm
  | ⟨1, _⟩ => exact (Tiles.cells_col _ b k.val hn hu).trans (Ref.refCells_col x w b k hd hr).symm

/-- The second results are equal: the same roots. -/
theorem error_eq : Tiles.errorOf x w = Ref.refError x w := by
  funext i
  obtain ⟨b, rfl⟩ : ∃ b : Fin 8192, i = ix1 b := ⟨i 0, funext fun a => by fin_cases a; rfl⟩
  obtain ⟨k, hk, hr, hd, e, h0⟩ := first x w hx hw b
  unfold Tiles.errorOf
  rw [Ref.refError_ap x w b k hd hr, Tiles.list_ap, Tiles.root_ap, (Tiles.best_first x (list w) b k hk).1,
    max_eq_left h0, e]

end Cert.Proof.Equation
end
-- ==== Proof.lean ====
/-
The certificate: the kernel's frames and the reference's, and the equality of their results over finite arguments.
-/
module

public import proofs.«01_k».proof.Defs
public import proofs.«01_k».proof.Proof.Gen.Kernel.Frame
public import proofs.«01_k».proof.Proof.Gen.KernelIdeal.Frame
public import proofs.«01_k».proof.Proof.Finite
public import proofs.«01_k».proof.Proof.RefRun
public import proofs.«01_k».proof.Proof.KernelRun
public import proofs.«01_k».proof.Proof.Equation

@[expose] public section
set_option maxRecDepth 16384
noncomputable section
namespace Cert.Proof
open Idealize.ShloMosaic Idealize.SL.Sem

/-- The reference runs to the end, leaves its arguments alone and every counter at zero: it declares none. -/
theorem frame_reference : Cert.quiescent_ReferenceIdeal := fun m g _ =>
  (θ_run Cert.ReferenceIdeal.defs _ _).mono
    (fun r h => ⟨fun c => ⟨(h c).2.2.1, (h c).2.2.2⟩, sem_eq_zero_of_no_sems (by decide) r.2⟩) (Ref.run m g)

/-- The kernel's two results, out of a memory that agrees with the reference's on the arguments, are the reference's. -/
theorem results {x x' : FVec Ideal Cert.KernelIdeal.S8192x32 .f32} {w w' : FVec Ideal Cert.KernelIdeal.S64x128x32 .f32}
    (ex : x' = x) (ew : w' = w) (h : (∀ i, x i ≠ ⊤ ∧ x i ≠ ⊥) ∧ ∀ i, w i ≠ ⊤ ∧ w i ≠ ⊥) :
    Ref.refCells x' w' = Tiles.cellsOf x w ∧ Ref.refError x' w' = Tiles.errorOf x w := by
  subst ex ew
  exact ⟨(Equation.cells_eq _ _ h.1 h.2).symm, (Equation.error_eq _ _ h.1 h.2).symm⟩

/-- Over finite arguments the kernel's two results are the reference's. -/
theorem algebraic (hPre : Cert.Pre_finite.Facts) : Cert.algebraic_KernelIdeal_ReferenceIdeal_pre_finite (hPre_finite := hPre) := by
  intro m g m' g' hpre hagree
  have hk := Tiles.run (F := Ideal) m g
  have hr := Ref.run m' g'
  have e := fun c => results (hagree c).1 (hagree c).2 (Finite.entries _ _ (hpre c))
  refine ⟨_, _, hk, ?_⟩
  exact (θ_run Cert.ReferenceIdeal.defs _ _).mono
    (fun r h c => ⟨(h c).1.trans (e c).1, (h c).2.1.trans (e c).2, (h c).2.2.1, (h c).2.2.2⟩) hr

/-- Every claim of the certificate. -/
theorem claim : Cert.Claim :=
  ⟨Cert.Kernel.Gen.facts, Cert.KernelIdeal.Gen.facts, Cert.ReferenceIdeal.Gen.facts, Finite.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic Finite.facts⟩

end Cert.Proof
end
